-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_diagonal_cell [hPre_diagonal_cell : Cert.Pre_diagonal_cell.Facts] (m : (ℓ : Loc Cert.KernelIdeal.nD Cert.KernelIdeal.τ Cert.KernelIdeal.sig) → Buf (Elt Ideal) ℓ) : Prop :=
  ∀ c : Dev Cert.KernelIdeal.nD,
    (Cert.Pre_diagonal_cell.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_diagonal_cell [hPre_diagonal_cell : Cert.Pre_diagonal_cell.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_diagonal_cell.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_diagonal_cell [hKernelIdeal : Cert.KernelIdeal.Facts] [hPre_diagonal_cell : Cert.Pre_diagonal_cell.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_diagonal_cell m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_diagonal_cell [hReferenceIdeal : Cert.ReferenceIdeal.Facts] [hPre_diagonal_cell : Cert.Pre_diagonal_cell.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_diagonal_cell m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_diagonal_cell [hKernelIdeal : Cert.KernelIdeal.Facts] [hReferenceIdeal : Cert.ReferenceIdeal.Facts] [hPre_diagonal_cell : Cert.Pre_diagonal_cell.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_diagonal_cell m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_diagonal_cell : Cert.Pre_diagonal_cell.Facts),
    quiescent_Kernel (hKernel := hKernel)
    ∧ quiescent_KernelIdeal (hKernelIdeal := hKernelIdeal)
    ∧ quiescent_KernelIdeal_pre_diagonal_cell (hKernelIdeal := hKernelIdeal) (hPre_diagonal_cell := hPre_diagonal_cell)
    ∧ quiescent_ReferenceIdeal (hReferenceIdeal := hReferenceIdeal)
    ∧ quiescent_ReferenceIdeal_pre_diagonal_cell (hReferenceIdeal := hReferenceIdeal) (hPre_diagonal_cell := hPre_diagonal_cell)
    ∧ preserves_Kernel_KernelIdeal
    ∧ algebraic_KernelIdeal_ReferenceIdeal_pre_diagonal_cell (hKernelIdeal := hKernelIdeal) (hReferenceIdeal := hReferenceIdeal) (hPre_diagonal_cell := hPre_diagonal_cell)
-- ==== Pre_diagonal_cell.lean ====
abbrev S2048x3 : Shape := ⟨2, ![2048, 3]⟩
abbrev S3x3 : Shape := ⟨2, ![3, 3]⟩
abbrev S_ : Shape := ⟨0, ![]⟩

class Facts : Prop where
  bcast_S_S3x3 : S_.BroadcastsInDim S3x3 (![] : Fin 0 → Fin S3x3.rank)
  reducesTo_S3x3_S_d0_1 : S3x3.ReducesTo [0, 1] S_
  h_S_ : 0 < S_.numel

variable [Facts]

def fn_where {F : FTy → Type} [FloatOps F] (arg0 : IVec S3x3 1) (arg1 : IVec S3x3 1) (arg2 : IVec S3x3 1) : IVec S3x3 1 :=
  let v0 : IVec S3x3 1 := select arg0 arg1 arg2
  v0

def fn {F : FTy → Type} [FloatOps F] (main_arg0 : FVec F S2048x3 .f32) (main_arg1 : FVec F S3x3 .f32) : IVec S_ 1 :=
  let main_v0 : IVec S3x3 32 := iotaInDim S3x3 32 0
  let main_v1 : IVec S3x3 32 := iotaInDim S3x3 32 1
  let main_c : IVec S_ 32 := constantI S_ 32 0#32
  let main_v2 : IVec S3x3 32 := broadcastInDim S3x3 ![] bcast_S_S3x3 main_c
  let main_v3 : IVec S3x3 32 := addi main_v0 main_v2
  let main_v4 : IVec S3x3 1 := cmpi .eq main_v3 main_v1
  let main_cst : FVec F S_ .f32 := constant S_ .f32 0x00000000#32
  let main_v5 : FVec F S3x3 .f32 := broadcastInDim S3x3 ![] bcast_S_S3x3 main_cst
  let main_v6 : IVec S3x3 1 := cmpf .une main_arg1 main_v5
  let main_v7 : FVec F S3x3 .f32 := Host.absf main_arg1
  let main_cst_0 : FVec F S_ .f32 := constant S_ .f32 0x7F800000#32
  let main_v8 : FVec F S3x3 .f32 := broadcastInDim S3x3 ![] bcast_S_S3x3 main_cst_0
  let main_v9 : IVec S3x3 1 := cmpf .olt main_v7 main_v8
  let main_v10 : IVec S3x3 1 := andi main_v6 main_v9
  let main_cst_1 : FVec F S_ .f32 := constant S_ .f32 0x00000000#32
  let main_v11 : FVec F S3x3 .f32 := broadcastInDim S3x3 ![] bcast_S_S3x3 main_cst_1
  let main_v12 : IVec S3x3 1 := cmpf .oeq main_arg1 main_v11
  let main_v13 : IVec S3x3 1 := fn_where (F := F) main_v4 main_v10 main_v12
  let main_c_2 : IVec S_ 1 := constantI S_ 1 1#1
  let main_v14 : IVec S_ 1 := (fun x v => Host.reduce IntOp.andi x v reducesTo_S3x3_S_d0_1 h_S_) main_v13 main_c_2
  main_v14
-- ==== Kernel.lean ====
abbrev S2048x3 : Shape := ⟨2, ![2048, 3]⟩
abbrev S3x3 : Shape := ⟨2, ![3, 3]⟩
abbrev S3x2048 : Shape := ⟨2, ![3, 2048]⟩
abbrev S2048x2048 : Shape := ⟨2, ![2048, 2048]⟩
abbrev S3x2048x2048 : Shape := ⟨3, ![3, 2048, 2048]⟩
abbrev S128x3 : Shape := ⟨2, ![128, 3]⟩
abbrev S128x2048 : Shape := ⟨2, ![128, 2048]⟩
abbrev S3x128x2048 : Shape := ⟨3, ![3, 128, 2048]⟩
abbrev S1x2048 : Shape := ⟨2, ![1, 2048]⟩
abbrev S128x1 : Shape := ⟨2, ![128, 1]⟩
abbrev S1x1 : Shape := ⟨2, ![1, 1]⟩
abbrev S1x128x2048 : Shape := ⟨3, ![1, 128, 2048]⟩
abbrev S2048x2048x3 : Shape := ⟨3, ![2048, 2048, 3]⟩

abbrev nBuf : Space → Nat
  | .hbm => 9
  | .vmem => 12
  | .smem => 0
  | _ => 0

abbrev bufTy : (tb : Table) → Fin (tcTables nBuf tb) → BufTy
  | .hbm, ⟨0, _⟩ => ⟨S2048x3, .f32⟩
  | .hbm, ⟨1, _⟩ => ⟨S3x3, .f32⟩
  | .hbm, ⟨2, _⟩ => ⟨S3x2048, .f32⟩
  | .hbm, ⟨3, _⟩ => ⟨S2048x2048, .i32⟩
  | .hbm, ⟨4, _⟩ => ⟨S3x2048x2048, .i32⟩
  | .hbm, ⟨5, _⟩ => ⟨S3x2048x2048, .f32⟩
  | .hbm, ⟨6, _⟩ => ⟨S2048x2048, .f32⟩
  | .hbm, ⟨7, _⟩ => ⟨S2048x2048x3, .i32⟩
  | .hbm, ⟨8, _⟩ => ⟨S2048x2048x3, .f32⟩
  | .local _ .vmem, ⟨0, _⟩ => ⟨S128x3, .f32⟩
  | .local _ .vmem, ⟨1, _⟩ => ⟨S128x3, .f32⟩
  | .local _ .vmem, ⟨2, _⟩ => ⟨S3x2048, .f32⟩
  | .local _ .vmem, ⟨3, _⟩ => ⟨S3x3, .f32⟩
  | .local _ .vmem, ⟨4, _⟩ => ⟨S128x2048, .i32⟩
  | .local _ .vmem, ⟨5, _⟩ => ⟨S128x2048, .i32⟩
  | .local _ .vmem, ⟨6, _⟩ => ⟨S3x128x2048, .i32⟩
  | .local _ .vmem, ⟨7, _⟩ => ⟨S3x128x2048, .i32⟩
  | .local _ .vmem, ⟨8, _⟩ => ⟨S3x128x2048, .f32⟩
  | .local _ .vmem, ⟨9, _⟩ => ⟨S3x128x2048, .f32⟩
  | .local _ .vmem, ⟨10, _⟩ => ⟨S128x2048, .f32⟩
  | .local _ .vmem, ⟨11, _⟩ => ⟨S128x2048, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2048x3 : Shape := ⟨2, ![2048, 3]⟩
abbrev S3x3 : Shape := ⟨2, ![3, 3]⟩
abbrev S2x3 : Shape := ⟨2, ![2, 3]⟩
abbrev S1x3 : Shape := ⟨2, ![1, 3]⟩
abbrev S3x2 : Shape := ⟨2, ![3, 2]⟩
abbrev S3x1 : Shape := ⟨2, ![3, 1]⟩
abbrev S_ : Shape := ⟨0, ![]⟩
abbrev S1x2048x3 : Shape := ⟨3, ![1, 2048, 3]⟩
abbrev S2048x1x3 : Shape := ⟨3, ![2048, 1, 3]⟩
abbrev S2048x2048x3 : Shape := ⟨3, ![2048, 2048, 3]⟩
abbrev S2048x2048 : Shape := ⟨2, ![2048, 2048]⟩
abbrev S2048x2048x1 : Shape := ⟨3, ![2048, 2048, 1]⟩

abbrev nBuf : Space → Nat
  | .hbm => 76
  | .vmem => 0
  | .smem => 0
  | _ => 0

abbrev bufTy : (tb : Table) → Fin (tcTables nBuf tb) → BufTy
  | .hbm, ⟨0, _⟩ => ⟨S2048x3, .f32⟩
  | .hbm, ⟨1, _⟩ => ⟨S3x3, .f32⟩
  | .hbm, ⟨2, _⟩ => ⟨S2x3, .f32⟩
  | .hbm, ⟨3, _⟩ => ⟨S1x3, .f32⟩
  | .hbm, ⟨4, _⟩ => ⟨S3x3, .f32⟩
  | .hbm, ⟨5, _⟩ => ⟨S3x2, .f32⟩
  | .hbm, ⟨6, _⟩ => ⟨S3x1, .f32⟩
  | .hbm, ⟨7, _⟩ => ⟨S3x3, .f32⟩
  | .hbm, ⟨8, _⟩ => ⟨S1x3, .f32⟩
  | .hbm, ⟨9, _⟩ => ⟨S2x3, .f32⟩
  | .hbm, ⟨10, _⟩ => ⟨S3x3, .f32⟩
  | .hbm, ⟨11, _⟩ => ⟨S3x1, .f32⟩
  | .hbm, ⟨12, _⟩ => ⟨S3x2, .f32⟩
  | .hbm, ⟨13, _⟩ => ⟨S3x3, .f32⟩
  | .hbm, ⟨14, _⟩ => ⟨S3x3, .f32⟩
  | .hbm, ⟨15, _⟩ => ⟨S2x3, .f32⟩
  | .hbm, ⟨16, _⟩ => ⟨S1x3, .f32⟩
  | .hbm, ⟨17, _⟩ => ⟨S3x3, .f32⟩
  | .hbm, ⟨18, _⟩ => ⟨S3x1, .f32⟩
  | .hbm, ⟨19, _⟩ => ⟨S3x2, .f32⟩
  | .hbm, ⟨20, _⟩ => ⟨S3x3, .f32⟩
  | .hbm, ⟨21, _⟩ => ⟨S1x3, .f32⟩
  | .hbm, ⟨22, _⟩ => ⟨S2x3, .f32⟩
  | .hbm, ⟨23, _⟩ => ⟨S3x3, .f32⟩
  | .hbm, ⟨24, _⟩ => ⟨S3x2, .f32⟩
  | .hbm, ⟨25, _⟩ => ⟨S3x1, .f32⟩
  | .hbm, ⟨26, _⟩ => ⟨S3x3, .f32⟩
  | .hbm, ⟨27, _⟩ => ⟨S3x3, .f32⟩
  | .hbm, ⟨28, _⟩ => ⟨S3x3, .f32⟩
  | .hbm, ⟨29, _⟩ => ⟨S1x3, .f32⟩
  | .hbm, ⟨30, _⟩ => ⟨S1x3, .f32⟩
  | .hbm, ⟨31, _⟩ => ⟨S1x3, .f32⟩
  | .hbm, ⟨32, _⟩ => ⟨S_, .f32⟩
  | .hbm, ⟨33, _⟩ => ⟨S_, .f32⟩
  | .hbm, ⟨34, _⟩ => ⟨S3x3, .f32⟩
  | .hbm, ⟨35, _⟩ => ⟨S3x3, .f32⟩
  | .hbm, ⟨36, _⟩ => ⟨S3x3, .f32⟩
  | .hbm, ⟨37, _⟩ => ⟨S1x2048x3, .f32⟩
  | .hbm, ⟨38, _⟩ => ⟨S2048x1x3, .f32⟩
  | .hbm, ⟨39, _⟩ => ⟨S2048x2048x3, .f32⟩
  | .hbm, ⟨40, _⟩ => ⟨S2048x2048x3, .f32⟩
  | .hbm, ⟨41, _⟩ => ⟨S2048x2048x3, .f32⟩
  | .hbm, ⟨42, _⟩ => ⟨S2048x2048x3, .f32⟩
  | .hbm, ⟨43, _⟩ => ⟨S2048x2048x3, .f32⟩
  | .hbm, ⟨44, _⟩ => ⟨S2048x2048x3, .f32⟩
  | .hbm, ⟨45, _⟩ => ⟨S2048x2048x3, .f32⟩
  | .hbm, ⟨46, _⟩ => ⟨S2048x2048x3, .f32⟩
  | .hbm, ⟨47, _⟩ => ⟨S2048x2048x3, .f32⟩
  | .hbm, ⟨48, _⟩ => ⟨S_, .f32⟩
  | .hbm, ⟨49, _⟩ => ⟨S2048x2048, .f32⟩
  | .hbm, ⟨50, _⟩ => ⟨S2048x2048, .i32⟩
  | .hbm, ⟨51, _⟩ => ⟨S2048x2048, .i32⟩
  | .hbm, ⟨52, _⟩ => ⟨S_, .i32⟩
  | .hbm, ⟨53, _⟩ => ⟨S2048x2048, .i32⟩
  | .hbm, ⟨54, _⟩ => ⟨S2048x2048, .i32⟩
  | .hbm, ⟨55, _⟩ => ⟨S2048x2048, .i1⟩
  | .hbm, ⟨56, _⟩ => ⟨S_, .f32⟩
  | .hbm, ⟨57, _⟩ => ⟨S2048x2048, .f32⟩
  | .hbm, ⟨58, _⟩ => ⟨S2048x2048, .i1⟩
  | .hbm, ⟨59, _⟩ => ⟨S2048x2048, .i1⟩
  | .hbm, ⟨60, _⟩ => ⟨S2048x2048, .i1⟩
  | .hbm, ⟨61, _⟩ => ⟨S2048x2048, .i32⟩
  | .hbm, ⟨62, _⟩ => ⟨S2048x2048x3, .i32⟩
  | .hbm, ⟨63, _⟩ => ⟨S2048x2048x1, .i32⟩
  | .hbm, ⟨64, _⟩ => ⟨S2048x2048x3, .i32⟩
  | .hbm, ⟨65, _⟩ => ⟨S2048x2048x3, .i32⟩
  | .hbm, ⟨66, _⟩ => ⟨S2048x2048x1, .i1⟩
  | .hbm, ⟨67, _⟩ => ⟨S_, .f32⟩
  | .hbm, ⟨68, _⟩ => ⟨S_, .f32⟩
  | .hbm, ⟨69, _⟩ => ⟨S2048x2048x3, .i1⟩
  | .hbm, ⟨70, _⟩ => ⟨S2048x2048x3, .f32⟩
  | .hbm, ⟨71, _⟩ => ⟨S2048x2048x3, .f32⟩
  | .hbm, ⟨72, _⟩ => ⟨S_, .f32⟩
  | .hbm, ⟨73, _⟩ => ⟨S_, .f32⟩
  | .hbm, ⟨74, _⟩ => ⟨S2048x2048, .f32⟩
  | .hbm, ⟨75, _⟩ => ⟨S2048x2048, .f32⟩
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v1 : Ref sig .tc := ⟨.hbm, 13, rfl⟩
abbrev main_v2 : Ref sig .tc := ⟨.hbm, 14, rfl⟩
abbrev main_call2_v0 : Ref sig .tc := ⟨.hbm, 15, rfl⟩
abbrev main_call2_v1 : Ref sig .tc := ⟨.hbm, 16, rfl⟩
abbrev main_call2_v2 : Ref sig .tc := ⟨.hbm, 17, rfl⟩
abbrev main_call2_v3 : Ref sig .tc := ⟨.hbm, 18, rfl⟩
abbrev main_call2_v4 : Ref sig .tc := ⟨.hbm, 19, rfl⟩
abbrev main_v3 : Ref sig .tc := ⟨.hbm, 20, rfl⟩
abbrev main_call3_v0 : Ref sig .tc := ⟨.hbm, 21, rfl⟩
abbrev main_call3_v1 : Ref sig .tc := ⟨.hbm, 22, rfl⟩
abbrev main_call3_v2 : Ref sig .tc := ⟨.hbm, 23, rfl⟩
abbrev main_call3_v3 : Ref sig .tc := ⟨.hbm, 24, rfl⟩
abbrev main_call3_v4 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_1 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_2 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_v41 : Ref sig .tc := ⟨.hbm, 71, rfl⟩
abbrev main_cst_3 : Ref sig .tc := ⟨.hbm, 72, rfl⟩
abbrev main_call6_v0 : Ref sig .tc := ⟨.hbm, 73, rfl⟩
abbrev main_call6_v1 : Ref sig .tc := ⟨.hbm, 74, rfl⟩
abbrev main_v42 : Ref sig .tc := ⟨.hbm, 75, rfl⟩

abbrev nD : Nat := 1
abbrev τ : Topo := Topo.v7x

variable {F : FTy → Type} [FloatOps F]
-- ==== Proof.Pair.lean ====
/-
  What one pair of particles contributes, as plain arithmetic on the extended reals. `p` is the position of the centre,
  `q` the position of the neighbour, `e` the three edges of the cell. Both programs are read into these words: the
  kernel in KernelBlock.lean, the reference in RefPair.lean.
-/
module

public import Idealize.ShloMosaic.PureOps.Ideal.Laws
public import Idealize.ShloMosaic.Lib.IdealHost
public import Idealize.ShloMosaic.Lib.Pointwise

@[expose] public section

noncomputable section

namespace Cert.Pair

open Idealize.ShloMosaic

/-- The three coordinates of a position, or the three edges of the cell. -/
abbrev Triple := Fin 3 → EReal

/-- The plain difference of the two positions along axis `c`, from the centre to the neighbour. -/
def gap (p q : Triple) (c : Fin 3) : EReal := q c - p c

/-- The number of whole cells by which the neighbour is moved along axis `c`: minus the gap measured in edges, rounded to
    the nearest integer (a tie goes to the even one). -/
def shift (p q e : Triple) (c : Fin 3) : EReal :=
  -Ideal.liftRound Ideal.roundHalfEven (gap p q c * Ideal.div 1 (e c))

/-- The displacement along axis `c` to the nearest image of the neighbour. -/
def disp (p q e : Triple) (c : Fin 3) : EReal := gap p q c + shift p q e c * e c

/-- The squared distance to the nearest image. -/
def dist2 (p q e : Triple) : EReal :=
  disp p q e 0 * disp p q e 0 + disp p q e 1 * disp p q e 1 + disp p q e 2 * disp p q e 2

/-- The bit that marks neighbours: the squared distance is below 36 and the bit `b` (the two particles differ) is set. -/
def near (p q e : Triple) (b : BitVec 1) : BitVec 1 :=
  IntOp.andi (Ideal.cmp .olt (dist2 p q e) (Ideal.ofBits .f32 0x42100000#32)) b

/-- The adjacency entry of the pair. -/
def adjacency (p q e : Triple) (b : BitVec 1) : BitVec 32 := (near p q e b).setWidth 32

/-- The integer shift of the pair along axis `c`; zero when the two are not neighbours. -/
def shiftOut (p q e : Triple) (b : BitVec 1) (c : Fin 3) : BitVec 32 :=
  Scalar.select (near p q e b) (Ideal.fptosi 32 (shift p q e c)) 0#32

/-- The displacement of the pair along axis `c`; zero when the two are not neighbours. -/
def dispOut (p q e : Triple) (b : BitVec 1) (c : Fin 3) : EReal :=
  Scalar.select (near p q e b) (disp p q e c) 0

/-- The squared distance of the pair; zero when the two are not neighbours. -/
def dist2Out (p q e : Triple) (b : BitVec 1) : EReal :=
  Scalar.select (near p q e b) (dist2 p q e) 0

/-- Zero converts to the integer zero. -/
theorem fptosi_zero : Ideal.fptosi 32 0 = 0#32 := by
  show Ideal.fptosi 32 ((0 : ℝ) : EReal) = 0#32
  rw [Ideal.fptosi, Ideal.toIntClamped_coe]
  norm_num

/-- Converting after the choice is choosing after the conversion: the value not chosen is zero. -/
theorem fptosi_select (b : BitVec 1) (x : EReal) :
    Ideal.fptosi 32 (Scalar.select b x 0) = Scalar.select b (Ideal.fptosi 32 x) 0#32 := by
  unfold Scalar.select
  split
  · rfl
  · exact fptosi_zero

/-- Multiplying a word by the mark, widened, chooses between the word and zero. -/
theorem muli_extend (w : BitVec 32) (b : BitVec 1) :
    IntOp.muli w (b.setWidth 32) = Scalar.select b w 0#32 := by
  by_cases h : b = 1#1
  · subst h; simp [IntOp.muli, Scalar.select]
  · rw [ValueIdx.eq_zero_of_ne_one h]; simp [IntOp.muli, Scalar.select]

/-! ## The four result arrays, from the positions of all particles and the cell -/

/-- The positions of all particles. -/
abbrev Positions := (⟨2, ![2048, 3]⟩ : Shape).Idx → EReal
/-- The cell. -/
abbrev Cell := (⟨2, ![3, 3]⟩ : Shape).Idx → EReal

/-- The position of particle `i`. -/
def place (x : Positions) (i : Fin 2048) : Triple := fun c => x (ix2 i c)
/-- The edges of the cell: its diagonal. -/
def edges (a : Cell) : Triple := fun c => a (ix2 c c)
/-- The bit that says two particle numbers differ. -/
def differ (i j : Fin 2048) : BitVec 1 := IntOp.cmpi .ne (BitVec.ofNat 32 i.val) (BitVec.ofNat 32 j.val)

/-- The adjacency matrix. -/
def adjacencyOf (x : Positions) (a : Cell) : (⟨2, ![2048, 2048]⟩ : Shape).Idx → BitVec 32 :=
  fun y => adjacency (place x (y 0)) (place x (y 1)) (edges a) (differ (y 0) (y 1))
/-- The array of integer shifts. -/
def shiftsOf (x : Positions) (a : Cell) : (⟨3, ![2048, 2048, 3]⟩ : Shape).Idx → BitVec 32 :=
  fun y => shiftOut (place x (y 0)) (place x (y 1)) (edges a) (differ (y 0) (y 1)) (y 2)
/-- The array of displacements. -/
def dispsOf (x : Positions) (a : Cell) : (⟨3, ![2048, 2048, 3]⟩ : Shape).Idx → EReal :=
  fun y => dispOut (place x (y 0)) (place x (y 1)) (edges a) (differ (y 0) (y 1)) (y 2)
/-- The matrix of squared distances. -/
def dist2sOf (x : Positions) (a : Cell) : (⟨2, ![2048, 2048]⟩ : Shape).Idx → EReal :=
  fun y => dist2Out (place x (y 0)) (place x (y 1)) (edges a) (differ (y 0) (y 1))

end Cert.Pair

end
-- ==== Proof.KernelBlock.lean ====
/-
  What one run of the kernel body leaves in its four result blocks, entry by entry, from the three blocks it reads: `x0`
  the positions of its 128 centres, `x1` all positions laid out by axis, `x2` the cell.
-/
module

public import proofs.«01_k».proof.Proof.Pair
public import proofs.«01_k».proof.Proof.Gen.KernelIdeal.Frame
public import Idealize.ShloMosaic.Lib.Pipeline.ValueKit

@[expose] public section

noncomputable section

namespace Cert.KernelIdeal.Block

open Cert.KernelIdeal Cert.KernelIdeal.Gen Cert.Pair
open Idealize.ShloMosaic

/-- The position of the block's centre number `r`. -/
def centre (x0 : Vec Ideal S128x3 .f32) (r : Fin 128) : Triple := fun c => x0 (ix2 r c)
/-- The position of particle `l`. -/
def other (x1 : Vec Ideal S3x2048 .f32) (l : Fin 2048) : Triple := fun c => x1 (ix2 c l)
/-- The bit that says the block's centre number `r` is not particle `l`. -/
def apart (i : grid0.Coords) (r : Fin 128) (l : Fin 2048) : BitVec 1 :=
  IntOp.cmpi .ne (IntOp.addi (IntOp.muli (BitVec.ofNat 32 (i 0).val) 128#32) (BitVec.ofNat 32 r.val)) (BitVec.ofNat 32 l.val)

/-! ## One coordinate. The body writes the same arithmetic once for each of the three; it is read once here, over any row
    `u` of neighbours' coordinates, column `v` of centres' coordinates and edge `w`. -/

section Coordinate

variable (u : Vec Ideal S1x2048 .f32) (v : Vec Ideal S128x1 .f32) (w : Vec Ideal S1x1 .f32) (y : S128x2048.Idx)

variable {y} {u} {v} {w} {p q e : Triple} {c : Fin 3}

/-- Minus the difference over the edge, rounded, is the shift along the coordinate's axis. -/
theorem shift_apply (hu : u (ix2 0 (y 1)) = q c) (hv : v (ix2 (y 0) 0) = p c) (hw : w (ix2 0 0) = e c) :
    k0_pay9 u v w y = shift p q e c := by
  pointwise [k0_pay9, k0_pay8, k0_pay7, shift, gap]
  rw [hu, hv, hw]
  exact zero_sub _

/-- The difference moved by that many edges is the displacement. -/
theorem disp_apply (hu : u (ix2 0 (y 1)) = q c) (hv : v (ix2 (y 0) 0) = p c) (hw : w (ix2 0 0) = e c) :
    k0_pay10 u v w y = disp p q e c := by
  pointwise [k0_pay10, k0_pay8, k0_pay7, disp, gap]
  rw [shift_apply hu hv hw, hu, hv, hw]

end Coordinate

/-! ## The three coordinates of one pair -/

section Pair

variable (i : grid0.Coords) (x0 : Vec Ideal S128x3 .f32) (x1 : Vec Ideal S3x2048 .f32) (x2 : Vec Ideal S3x3 .f32)
variable (y : S128x2048.Idx)

/-- The block's pair at `y`, put through a function of centre, neighbour and edges. -/
abbrev atPair {α : Type} (f : Triple → Triple → Triple → α) : α := f (centre x0 (y 0)) (other x1 (y 1)) (edges x2)

/-- The shift along the first axis. -/
theorem shift0 : k0_pay9 (View.ld x1 r0_0) (View.ld x0 r0_1) (View.ld x2 r0_2) y = atPair x0 x1 x2 y shift 0 :=
  shift_apply (by pointwise [other]) (by pointwise [centre]) (by pointwise [edges])
/-- The shift along the second axis. -/
theorem shift1 : k0_pay14 (View.ld x1 r0_3) (View.ld x0 r0_4) (View.ld x2 r0_5) y = atPair x0 x1 x2 y shift 1 :=
  shift_apply (by pointwise [other]) (by pointwise [centre]) (by pointwise [edges])
/-- The shift along the third axis. -/
theorem shift2 : k0_pay19 (View.ld x1 r0_6) (View.ld x0 r0_7) (View.ld x2 r0_8) y = atPair x0 x1 x2 y shift 2 :=
  shift_apply (by pointwise [other]) (by pointwise [centre]) (by pointwise [edges])

/-- The displacement along the first axis. -/
theorem disp0 : k0_pay10 (View.ld x1 r0_0) (View.ld x0 r0_1) (View.ld x2 r0_2) y = atPair x0 x1 x2 y disp 0 :=
  disp_apply (by pointwise [other]) (by pointwise [centre]) (by pointwise [edges])
/-- The displacement along the second axis. -/
theorem disp1 : k0_pay16 (k0_pay30 i x0 x1 x2) (k0_pay31 i x0 x1 x2) y = atPair x0 x1 x2 y disp 1 :=
  disp_apply (by pointwise [other]) (by pointwise [centre]) (by pointwise [edges])
/-- The displacement along the third axis. -/
theorem disp2 : k0_pay20 (View.ld x1 r0_6) (View.ld x0 r0_7) (View.ld x2 r0_8) y = atPair x0 x1 x2 y disp 2 :=
  disp_apply (by pointwise [other]) (by pointwise [centre]) (by pointwise [edges])

/-- The sum of the three squares is the squared distance. -/
theorem dist2_apply : k0_pay21 (k0_pay29 i x0 x1 x2) (k0_pay30 i x0 x1 x2) (k0_pay31 i x0 x1 x2)
    (View.ld x1 r0_6) (View.ld x0 r0_7) (View.ld x2 r0_8) y = atPair x0 x1 x2 y dist2 := by
  pointwise [k0_pay21, k0_pay29, k0_pay11, dist2]
  rw [disp0, disp1, disp2]

/-- The mask is the mark of neighbours. -/
theorem near_apply : k0_pay32 i x0 x1 x2 y = atPair x0 x1 x2 y near (apart i (y 0) (y 1)) := by
  pointwise [k0_pay32, k0_pay22, k0_pay27, k0_pay28, k0_pay6, near, apart]
  rw [dist2_apply]
  rfl

/-! ## The four result blocks -/

/-- The adjacency block. -/
theorem out3_apply : out0_3 i x0 x1 x2 y = atPair x0 x1 x2 y adjacency (apart i (y 0) (y 1)) := by
  frame_out
  show (k0_pay32 i x0 x1 x2 y).setWidth 32 = _
  rw [near_apply]
  rfl

/-- The block of squared distances. -/
theorem out6_apply : out0_6 i x0 x1 x2 y = atPair x0 x1 x2 y dist2Out (apart i (y 0) (y 1)) := by
  frame_out
  show Scalar.select (k0_pay32 i x0 x1 x2 y) (k0_pay21 _ _ _ _ _ _ y) (Ideal.ofBits .f32 0x00000000#32) = _
  rw [near_apply, dist2_apply, Ideal.ofBits_zero_f32]
  rfl

/-- A plane of displacements: the value where the mark is set, zero elsewhere. -/
theorem dispPlane_apply (v : FVec Ideal S128x2048 .f32) (b : IVec S128x2048 1) (y : S1x128x2048.Idx) :
    k0_pay4 v b y = Scalar.select (b (ix2 (y 1) (y 2))) (v (ix2 (y 1) (y 2))) 0 := by
  pointwise [k0_pay4]

/-- A plane of shifts: the value as an integer where the mark is set, zero elsewhere. -/
theorem shiftPlane_apply (v : FVec Ideal S128x2048 .f32) (b : IVec S128x2048 1) (y : S1x128x2048.Idx) :
    k0_pay5 v b y = Scalar.select (b (ix2 (y 1) (y 2))) (Ideal.fptosi 32 (v (ix2 (y 1) (y 2)))) 0#32 := by
  refine Eq.trans ?_ (fptosi_select _ _)
  pointwise [k0_pay5]
  rfl

/-- An index of the three planes, from the plane's number and the index within it. -/
theorem plane_index {z : S3x128x2048.Idx} {y : S1x128x2048.Idx} (c : Fin 3) (h0 : (z 0 : ℕ) = c) (h1 : (z 1 : ℕ) = y 1)
    (h2 : (z 2 : ℕ) = y 2) : z = ix3 c (y 1) (y 2) := by
  funext a
  match a with
  | ⟨0, _⟩ => exact Fin.ext h0
  | ⟨1, _⟩ => exact Fin.ext h1
  | ⟨2, _⟩ => exact Fin.ext h2

/-- The block of integer shifts: one plane for each axis. -/
theorem out4_apply (z : S3x128x2048.Idx) :
    out0_4 i x0 x1 x2 z = shiftOut (centre x0 (z 1)) (other x1 (z 2)) (edges x2) (apart i (z 1) (z 2)) (z 0) := by
  canon_tiles y h
  · rw [plane_index 2 (by simp; omega) h1 h2, shiftPlane_apply, near_apply, shift2]
    rfl
  · rw [plane_index 1 (by simp; omega) h1 h2]
    refine (shiftPlane_apply _ _ y).trans ?_
    rw [near_apply, shift1]
    rfl
  · rw [plane_index 0 (by simp; omega) h1 h2]
    refine (shiftPlane_apply (k0_pay9 _ _ _) (k0_pay32 i x0 x1 x2) y).trans ?_
    rw [near_apply, shift0]
    rfl

/-- The block of displacements: one plane for each axis. -/
theorem out5_apply (z : S3x128x2048.Idx) :
    out0_5 i x0 x1 x2 z = dispOut (centre x0 (z 1)) (other x1 (z 2)) (edges x2) (apart i (z 1) (z 2)) (z 0) := by
  canon_tiles y h
  · rw [plane_index 2 (by simp; omega) h1 h2, dispPlane_apply, near_apply, disp2]
    rfl
  · rw [plane_index 1 (by simp; omega) h1 h2]
    refine (dispPlane_apply _ _ y).trans ?_
    rw [near_apply, disp1]
    rfl
  · rw [plane_index 0 (by simp; omega) h1 h2]
    refine (dispPlane_apply (k0_pay10 _ _ _) (k0_pay32 i x0 x1 x2) y).trans ?_
    rw [near_apply, disp0]
    rfl

end Pair

end Cert.KernelIdeal.Block

end
-- ==== Proof.KernelArray.lean ====
/-
  What the kernel leaves in its four result arrays, entry by entry, from its two argument arrays: the blocks of the
  sixteen grid points put together, and the two transpositions that follow them.
-/
module

public import proofs.«01_k».proof.Proof.KernelBlock

@[expose] public section

noncomputable section

namespace Cert.KernelIdeal.Arrays

open Cert.KernelIdeal Cert.KernelIdeal.Gen Cert.KernelIdeal.Block Cert.Pair
open Idealize.ShloMosaic Idealize.ShloMosaic.TcCoe Idealize.SL.Sem

/-! ## Which block each window shows at a grid point -/

/-- The centres' window shows the block of the grid point's number. -/
theorem index0 : ∀ t : Fin cfg0.N, win0_0.index t = ![(grid0.coords t 0).val, 0] :=
  (by decide +kernel : ∀ t : Fin grid0.N, _)
/-- The neighbours' window shows the whole array. -/
theorem index1 : ∀ t : Fin cfg0.N, win0_1.index t = ![0, 0] := (by decide +kernel : ∀ t : Fin grid0.N, _)
/-- The cell's window shows the whole cell. -/
theorem index2 : ∀ t : Fin cfg0.N, win0_2.index t = ![0, 0] := (by decide +kernel : ∀ t : Fin grid0.N, _)
/-- The adjacency window shows the rows of the grid point's block. -/
theorem index3 : ∀ t : Fin cfg0.N, win0_3.index t = ![(grid0.coords t 0).val, 0] :=
  (by decide +kernel : ∀ t : Fin grid0.N, _)
/-- The shift window shows those rows in all three planes. -/
theorem index4 : ∀ t : Fin cfg0.N, win0_4.index t = ![0, (grid0.coords t 0).val, 0] :=
  (by decide +kernel : ∀ t : Fin grid0.N, _)
/-- The displacement window shows those rows in all three planes. -/
theorem index5 : ∀ t : Fin cfg0.N, win0_5.index t = ![0, (grid0.coords t 0).val, 0] :=
  (by decide +kernel : ∀ t : Fin grid0.N, _)
/-- The squared distances' window shows the rows of the grid point's block. -/
theorem index6 : ∀ t : Fin cfg0.N, win0_6.index t = ![(grid0.coords t 0).val, 0] :=
  (by decide +kernel : ∀ t : Fin grid0.N, _)

variable (m : (ℓ : Loc nD τ sig) → Buf (Elt Ideal) ℓ) (c : Dev nD)

/-- The positions as launched. -/
abbrev pos : Positions := m ((c : Thread nD τ).loc main_arg0)
/-- The cell as launched. -/
abbrev cel : Cell := m ((c : Thread nD τ).loc main_arg1)

/-- The kernel's second operand is the positions transposed. -/
theorem V_main_v0 : V m c main_v0 = fun y => pos m c (ix2 (y 1) (y 0)) := by
  show StableHlo.after hostOps0 _ (Proc.devRef .tc main_v0) = _
  after_results
  funext y
  pointwise []

variable {t : Fin cfg0.N} {r : Fin 128} {j : Fin 2048}

/-- Centre number `r` of the block at point `t` is particle number `128 t + r`. -/
theorem centre_eq (hj : (j : ℕ) = (grid0.coords t 0).val * 128 + r) : centre (iblk m c 0 t) r = place (pos m c) j := by
  funext k
  show iblk m c 0 t (ix2 r k) = pos m c (ix2 j k)
  blk_simp [iblk]
  rw [V_main_arg0]
  congr 1
  blk_ext [index0]

/-- The neighbours' block is all particles. -/
theorem other_eq (l : Fin 2048) : other (iblk m c 1 t) l = place (pos m c) l := by
  funext k
  show iblk m c 1 t (ix2 k l) = pos m c (ix2 l k)
  blk_simp [iblk]
  rw [V_main_v0]
  show pos m c _ = _
  congr 1
  blk_ext [index1]

/-- The cell's block is the cell. -/
theorem edges_eq : edges (iblk m c 2 t) = edges (cel m c) := by
  funext k
  show iblk m c 2 t (ix2 k k) = cel m c (ix2 k k)
  blk_simp [iblk]
  rw [V_main_arg1]
  congr 1
  blk_ext [index2]

/-- The body's comparison of its two numbers is that of the particle numbers: none of them wraps in 32 bits. -/
theorem apart_eq (hj : (j : ℕ) = (grid0.coords t 0).val * 128 + r) (l : Fin 2048) :
    apart (grid0.coords t) r l = differ j l := by
  unfold apart differ
  rw [hj]
  congr 1
  apply BitVec.eq_of_toNat_eq
  simp [IntOp.addi, IntOp.muli]

/-- What is computed from a centre and a neighbour of the block is computed from the two particles. -/
theorem pair_eq {α : Type} (f : Triple → Triple → Triple → BitVec 1 → α) {k l : Fin 2048}
    (hj : (j : ℕ) = (grid0.coords t 0).val * 128 + r) (hk : (k : ℕ) = l) :
    f (centre (iblk m c 0 t) r) (other (iblk m c 1 t) l) (edges (iblk m c 2 t)) (apart (grid0.coords t) r l)
      = f (place (pos m c) j) (place (pos m c) k) (edges (cel m c)) (differ j k) := by
  obtain rfl : k = l := Fin.ext hk
  rw [centre_eq m c hj, other_eq, edges_eq, apart_eq hj]

/-! ## The four arrays when the grid is done -/

/-- The adjacency matrix. -/
theorem adj_array : (dats m 0 c).arrAt 3 cfg0.N = adjacencyOf (pos m c) (cel m c) := by
  refine (dats m 0 c).arrAt_eq_of_covers 3 _ (by decide +kernel) fun t hf y => ?_
  blk_simp
  rw [after0_3, out3_apply]
  refine pair_eq m c adjacency ?_ ?_ <;> blk_simp [index3] <;> simp

/-- The matrix of squared distances. -/
theorem sod_array : (dats m 0 c).arrAt 6 cfg0.N = dist2sOf (pos m c) (cel m c) := by
  refine (dats m 0 c).arrAt_eq_of_covers 6 _ (by decide +kernel) fun t hf y => ?_
  blk_simp
  rw [after0_6, out6_apply]
  refine pair_eq m c dist2Out ?_ ?_ <;> blk_simp [index6] <;> simp

/-- The integer shifts, one plane for each axis. -/
theorem sft_array : (dats m 0 c).arrAt 4 cfg0.N = fun z => shiftsOf (pos m c) (cel m c) (ix3 (z 1) (z 2) (z 0)) := by
  refine (dats m 0 c).arrAt_eq_of_covers 4 _ (by decide +kernel) fun t hf y => ?_
  blk_simp
  rw [after0_4, out4_apply]
  have h0 : y 0 = (win0_4.blk t).view.emb y 0 := Fin.ext (by blk_simp [index4])
  rw [h0]
  refine pair_eq m c (fun p q e b => shiftOut p q e b _) ?_ ?_ <;> blk_simp [index4] <;> simp

/-- The displacements, one plane for each axis. -/
theorem vec_array : (dats m 0 c).arrAt 5 cfg0.N = fun z => dispsOf (pos m c) (cel m c) (ix3 (z 1) (z 2) (z 0)) := by
  refine (dats m 0 c).arrAt_eq_of_covers 5 _ (by decide +kernel) fun t hf y => ?_
  blk_simp
  rw [after0_5, out5_apply]
  have h0 : y 0 = (win0_5.blk t).view.emb y 0 := Fin.ext (by blk_simp [index5])
  rw [h0]
  refine pair_eq m c (fun p q e b => dispOut p q e b _) ?_ ?_ <;> blk_simp [index5] <;> simp

/-! ## The two transpositions after the grid -/

/-- The axis is the last coordinate of the third result. -/
theorem sft_result : Pipeline.afterTail₀ cfgs (dats m) 0 (V0 m) [hostOps1] c main_v2
    = shiftsOf (pos m c) (cel m c) := by
  show StableHlo.after hostOps1 _ (Proc.devRef .tc main_v2) = _
  after_results
  refine (congrArg (transpose S2048x2048x3 [1, 2, 0] · transposes_S3x2048x2048_S2048x2048x3_1_2_0)
    ((Pipeline.withArrays_arr spec0 launch0.win.arr_inj c (V0 m c) _ 4).trans (sft_array m c))).trans ?_
  funext y
  pointwise []

/-- The axis is the last coordinate of the third result. -/
theorem vec_result : Pipeline.afterTail₀ cfgs (dats m) 0 (V0 m) [hostOps1] c main_v3
    = dispsOf (pos m c) (cel m c) := by
  show StableHlo.after hostOps1 _ (Proc.devRef .tc main_v3) = _
  after_results
  refine (congrArg (transpose S2048x2048x3 [1, 2, 0] · transposes_S3x2048x2048_S2048x2048x3_1_2_0)
    ((Pipeline.withArrays_arr spec0 launch0.win.arr_inj c (V0 m c) _ 5).trans (vec_array m c))).trans ?_
  funext y
  pointwise []

/-- After every run the four results are the four arrays of the mathematics, and the arguments are kept. -/
theorem run (ρ : Dev nD → PrngReg) : θ_run defs (onTc (τ := τ) (main (F := Ideal))) ⟨m, fun _ => 0, ρ⟩ (fun r => ∀ c : Dev nD,
      r.2.mem ((c : Thread nD τ).loc main_v1_0) = adjacencyOf (pos m c) (cel m c)
      ∧ r.2.mem ((c : Thread nD τ).loc main_v2) = shiftsOf (pos m c) (cel m c)
      ∧ r.2.mem ((c : Thread nD τ).loc main_v3) = dispsOf (pos m c) (cel m c)
      ∧ r.2.mem ((c : Thread nD τ).loc main_v1_3) = dist2sOf (pos m c) (cel m c)
      ∧ r.2.mem ((c : Thread nD τ).loc main_arg0) = m ((c : Thread nD τ).loc main_arg0)
      ∧ r.2.mem ((c : Thread nD τ).loc main_arg1) = m ((c : Thread nD τ).loc main_arg1)) := by
  refine (θ_run _ _ _).mono ?_ (θ_run_and (run_main m ρ) (unchanged m ρ))
  rintro r ⟨h, hu⟩ c
  refine ⟨?_, ?_, ?_, ?_, hu c⟩
  · exact (h.out_eq c 3).trans (adj_array m c)
  · exact (h.rest_eq c _ (by decide)).trans (sft_result m c)
  · exact (h.rest_eq c _ (by decide)).trans (vec_result m c)
  · exact (h.out_eq c 6).trans (sod_array m c)

end Cert.KernelIdeal.Arrays

end
-- ==== Proof.Pre.lean ====
/-
  What the precondition `diagonal_cell` says of the cell: its entries off the diagonal are zero, and those on it are real
  numbers other than zero.
-/
module

public import proofs.«01_k».proof.Proof.Pair
public import proofs.«01_k».proof.Pre_diagonal_cell
public import Idealize.ShloMosaic.Lib.ReduceAll

@[expose] public section

noncomputable section

namespace Cert.Pre_diagonal_cell

open Idealize.ShloMosaic Cert.Pair

variable [Facts]

/-- The condition on the entry at row `i` and column `j`. -/
theorem entry {x : Positions} {a : Cell} (h : fn (F := Ideal) x a = fun _ => 1#1) (i j : Fin 3) :
    Scalar.select (IntOp.cmpi .eq (IntOp.addi (BitVec.ofNat 32 i.val) 0#32) (BitVec.ofNat 32 j.val))
      (IntOp.andi (Ideal.cmp .une (a (ix2 i j)) 0)
        (Ideal.cmp .olt (max (a (ix2 i j)) (-a (ix2 i j))) (Ideal.ofBits .f32 0x7F800000#32)))
      (Ideal.cmp .oeq (a (ix2 i j)) 0) = 1#1 := by
  have e := Host.reduce_andi_all _ _ _ _ _ (congrFun h (fun k => k.elim0)) (ix2 i j)
  rw [← e]
  pointwise [fn_where]
  rfl

/-- A decision's bit is set exactly when the proposition holds. -/
theorem of_bit {p : Prop} [Decidable p] (h : BitVec.ofBool (decide p) = 1#1) : p := by
  by_contra hp
  rw [decide_eq_false hp] at h
  exact absurd h (by decide)

/-- An entry off the diagonal is zero. -/
theorem off_diagonal {x : Positions} {a : Cell} (h : fn (F := Ideal) x a = fun _ => 1#1) {i j : Fin 3} (hij : i ≠ j) :
    a (ix2 i j) = 0 := by
  have e := entry h i j
  have hc : IntOp.cmpi .eq (IntOp.addi (BitVec.ofNat 32 i.val) 0#32) (BitVec.ofNat 32 j.val) = 0#1 := by
    clear e
    revert i j
    decide
  rw [hc] at e
  exact of_bit e

/-- An entry on the diagonal is a real number other than zero. -/
theorem on_diagonal {x : Positions} {a : Cell} (h : fn (F := Ideal) x a = fun _ => 1#1) (i : Fin 3) :
    ∃ r : ℝ, r ≠ 0 ∧ edges a i = r := by
  have e := entry h i i
  have hc : IntOp.cmpi .eq (IntOp.addi (BitVec.ofNat 32 i.val) 0#32) (BitVec.ofNat 32 i.val) = 1#1 := by
    clear e
    revert i
    decide
  have htop : Ideal.ofBits .f32 0x7F800000#32 = ⊤ := by simp [Ideal.ofBits, Ideal.ieee]
  rw [hc, htop] at e
  obtain ⟨e0, e1⟩ := IntOp.andi_eq_one.1 e
  have h0 : a (ix2 i i) ≠ 0 := of_bit e0
  have h1 : max (a (ix2 i i)) (-a (ix2 i i)) < ⊤ := of_bit e1
  show ∃ r : ℝ, r ≠ 0 ∧ a (ix2 i i) = r
  revert h0 h1
  induction a (ix2 i i) with
  | bot => simp
  | top => simp
  | coe r => exact fun h0 _ => ⟨r, by exact_mod_cast h0, rfl⟩

end Cert.Pre_diagonal_cell

end
-- ==== Proof.RefInverse.lean ====
/-
  The inverse that the reference computes, the transposed cofactors over the determinant, when the cell is diagonal: one
  over each edge on the diagonal, zero off it.
-/
module

public import proofs.«01_k».proof.Proof.Pair
public import proofs.«01_k».proof.Proof.Gen.ReferenceIdeal.Read

@[expose] public section

noncomputable section

namespace Cert.ReferenceIdeal.Inverse

open Cert.ReferenceIdeal Cert.ReferenceIdeal.Read Cert.Pair
open Idealize.ShloMosaic

/-! ## The cofactors, for any cell -/

section Cofactor

variable (a : Cell) (i j : Fin 3)

/-- The cell rolled by one row and one column. -/
theorem roll11 : val_main_v0 (F := Ideal) a (ix2 i j) = a (ix2 (i + 1) (j + 1)) := by
  fin_cases i <;> fin_cases j <;> pointwise [val_main_v0, val_main_call0_v4, val_main_call0_v3, val_main_call0_v2,
    val_main_call0_v1, val_main_call0_v0] <;> rfl

/-- The cell rolled by two rows and two columns. -/
theorem roll22 : val_main_v1 (F := Ideal) a (ix2 i j) = a (ix2 (i + 2) (j + 2)) := by
  fin_cases i <;> fin_cases j <;> pointwise [val_main_v1, val_main_call1_v4, val_main_call1_v3, val_main_call1_v2,
    val_main_call1_v1, val_main_call1_v0] <;> rfl

/-- The cell rolled by one row and two columns. -/
theorem roll12 : val_main_v3 (F := Ideal) a (ix2 i j) = a (ix2 (i + 1) (j + 2)) := by
  fin_cases i <;> fin_cases j <;> pointwise [val_main_v3, val_main_call2_v4, val_main_call2_v3, val_main_call2_v2,
    val_main_call2_v1, val_main_call2_v0] <;> rfl

/-- The cell rolled by two rows and one column. -/
theorem roll21 : val_main_v4 (F := Ideal) a (ix2 i j) = a (ix2 (i + 2) (j + 1)) := by
  fin_cases i <;> fin_cases j <;> pointwise [val_main_v4, val_main_call3_v4, val_main_call3_v3, val_main_call3_v2,
    val_main_call3_v1, val_main_call3_v0] <;> rfl

/-- The cofactor at row `i` and column `j`. -/
theorem cofactor_apply : val_main_v6 (F := Ideal) a (ix2 i j)
    = a (ix2 (i + 1) (j + 1)) * a (ix2 (i + 2) (j + 2)) - a (ix2 (i + 1) (j + 2)) * a (ix2 (i + 2) (j + 1)) := by
  rw [val_main_v6_apply, val_main_v2_apply, val_main_v5_apply, roll11, roll22, roll12, roll21]
  rfl

end Cofactor

/-! ## The cofactors, the determinant and the inverse of a diagonal cell -/

section Diagonal

variable {a : Cell} (hoff : ∀ {i j : Fin 3}, i ≠ j → a (ix2 i j) = 0)

include hoff

/-- A cofactor on the diagonal is the product of the other two edges. -/
theorem cofactor_on (i : Fin 3) : val_main_v6 (F := Ideal) a (ix2 i i) = edges a (i + 1) * edges a (i + 2) := by
  have h : i + 1 ≠ i + 2 := by revert i; decide
  rw [cofactor_apply, hoff h, zero_mul, sub_zero]
  rfl

/-- A cofactor off the diagonal is zero: each of its two products has a factor from off the diagonal. -/
theorem cofactor_off {i j : Fin 3} (h : i ≠ j) : val_main_v6 (F := Ideal) a (ix2 i j) = 0 := by
  have h1 : i + 1 ≠ j + 1 := by clear hoff; revert i j; decide
  have h2 : i + 1 ≠ j + 2 ∨ i + 2 ≠ j + 1 := by clear hoff h1; revert i j; decide
  rw [cofactor_apply, hoff h1, zero_mul]
  rcases h2 with h2 | h2 <;> rw [hoff h2] <;> simp

/-- The determinant is the product of the three edges. -/
theorem det_apply (y : S_.Idx) : val_main_v10 (F := Ideal) a y = edges a 0 * (edges a 1 * edges a 2) := by
  rw [val_main_v10_apply, sum_idx2]
  simp only [Fin.sum_univ_one, val_main_v9_apply, val_main_v7_apply, val_main_v8_apply]
  have hterm (j : Fin 3) : FloatOps.mulf (F := Ideal) (φ := .f32) (a (idx_main_v7 (ix2 0 j)))
      (val_main_v6 (F := Ideal) a (idx_main_v8 (ix2 0 j))) = a (ix2 0 j) * val_main_v6 (F := Ideal) a (ix2 0 j) := by
    rw [show idx_main_v7 (ix2 0 j) = ix2 0 j from eq_ix2 _, show idx_main_v8 (ix2 0 j) = ix2 0 j from eq_ix2 _]
    rfl
  have hzero : val_main_cst (F := Ideal) (Shape.Idx.first Gen.h_S_) = 0 := Ideal.ofBits_zero_f32
  simp only [hterm, hzero, zero_add]
  rw [Finset.sum_eq_single 0 (fun j _ hj => by rw [hoff hj.symm, zero_mul]) (by simp), cofactor_on hoff]
  rfl

/-- The inverse: one over each edge on the diagonal, zero off it. -/
theorem inverse_apply (hon : ∀ i, ∃ r : ℝ, r ≠ 0 ∧ edges a i = r) (k c : Fin 3) :
    val_main_v13 (F := Ideal) a (ix2 k c) = if k = c then Ideal.div 1 (edges a c) else 0 := by
  choose r hr he using hon
  have hdet : r 0 * (r 1 * r 2) ≠ 0 := mul_ne_zero (hr 0) (mul_ne_zero (hr 1) (hr 2))
  rw [val_main_v13_apply, val_main_v12_apply, det_apply hoff, val_main_v11_apply,
    show idx_main_v11 (ix2 k c) = ix2 c k from eq_ix2 _]
  show Ideal.div _ _ = _
  simp only [he, Ideal.div, ← EReal.coe_mul, ← EReal.coe_inv, EReal.coe_eq_zero, if_neg hdet, if_neg (hr _)]
  by_cases h : k = c
  · subst h
    rw [if_pos rfl, cofactor_on hoff, he, he, one_mul, ← EReal.coe_mul, ← EReal.coe_mul]
    congr 1
    have h0 := hr 0
    have h1 := hr 1
    have h2 := hr 2
    fin_cases k <;> simp <;> field_simp
  · rw [if_neg h, cofactor_off hoff (Ne.symm h), zero_mul]

end Diagonal

end Cert.ReferenceIdeal.Inverse

end
-- ==== Proof.RefPair.lean ====
/-
  What the reference computes from two particles and a diagonal cell, entry by entry: its products with the inverse and
  with the cell keep one term each, so that each axis is on its own.
-/
module

public import proofs.«01_k».proof.Proof.RefInverse

@[expose] public section

noncomputable section

namespace Cert.ReferenceIdeal.Entry

open Cert.ReferenceIdeal Cert.ReferenceIdeal.Read Cert.ReferenceIdeal.Inverse Cert.Pair
open Idealize.ShloMosaic

/-- What is computed from two particles and the cell, at an entry of a result with or without a last axis. -/
abbrev atPair {α : Type} (x : Positions) (a : Cell) (i j : Fin 2048) (f : Triple → Triple → Triple → α) : α :=
  f (place x i) (place x j) (edges a)

/-- The reference's bit is that of unequal particle numbers. -/
theorem differ_apply (y : S2048x2048.Idx) : val_main_v33 (F := Ideal) y = differ (y 0) (y 1) := by
  rw [val_main_v33_apply, val_main_v30_apply, val_main_v29_apply, val_main_v28_apply, val_main_v26_apply,
    val_main_v27_apply]
  show ~~~ (IntOp.cmpi .eq (_ + 0#32) _) = _
  rw [BitVec.add_zero]
  show ~~~ BitVec.ofBool (BitVec.ofNat 32 (y 0).val == BitVec.ofNat 32 (y 1).val)
    = BitVec.ofBool (!(BitVec.ofNat 32 (y 0).val == BitVec.ofNat 32 (y 1).val))
  generalize (BitVec.ofNat 32 (y 0).val == BitVec.ofNat 32 (y 1).val) = b
  cases b <;> rfl

variable {x : Positions} {a : Cell} (i j : Fin 2048) (c : Fin 3)

/-- The difference of two positions. -/
theorem gap_apply : val_main_v18 (F := Ideal) x (ix3 i j c) = gap (place x i) (place x j) c := by
  rw [val_main_v18_apply, val_main_v16_apply, val_main_v17_apply, val_main_v14_apply, val_main_v15_apply]
  exact congrArg₂ (fun u v : EReal => u - v) (congrArg x (eq_ix2 _)) (congrArg x (eq_ix2 _))

variable (hoff : ∀ {i j : Fin 3}, i ≠ j → a (ix2 i j) = 0) (hon : ∀ i, ∃ r : ℝ, r ≠ 0 ∧ edges a i = r)

include hoff hon

/-- The product with the inverse keeps the term of its own axis. -/
theorem frac_apply : val_main_v19 (F := Ideal) x a (ix3 i j c)
    = gap (place x i) (place x j) c * Ideal.div 1 (edges a c) := by
  have hl (k : Fin 3) : lidx_main_v19 (ix3 i j c) k = ix3 i j k := eq_ix3 _
  have hr (k : Fin 3) : ridx_main_v19 (ix3 i j c) k = ix2 k c := eq_ix2 _
  simp only [val_main_v19_apply, hl, hr, gap_apply, inverse_apply hoff hon, mul_ite, mul_zero, Finset.sum_ite_eq',
    Finset.mem_univ, if_true]

/-- The reference's shift. -/
theorem shift_apply : val_main_v21 (F := Ideal) x a (ix3 i j c) = atPair x a i j shift c := by
  rw [val_main_v21_apply, val_main_v20_apply, frac_apply i j c hoff hon]
  rfl

/-- The product with the cell keeps the term of its own axis. -/
theorem disp_apply : val_main_v23 (F := Ideal) x a (ix3 i j c) = atPair x a i j disp c := by
  have hl (k : Fin 3) : lidx_main_v22 (ix3 i j c) k = ix3 i j k := eq_ix3 _
  have hr (k : Fin 3) : ridx_main_v22 (ix3 i j c) k = ix2 k c := eq_ix2 _
  rw [val_main_v23_apply, val_main_v22_apply, gap_apply]
  simp only [hl, hr, shift_apply _ _ _ hoff hon]
  rw [Finset.sum_eq_single c (fun k _ hk => by rw [hoff hk, mul_zero]) (by simp)]
  rfl

/-- The shift at any entry. -/
theorem shift_entry (y : S2048x2048x3.Idx) : val_main_v21 (F := Ideal) x a y = atPair x a (y 0) (y 1) shift (y 2) :=
  (congrArg (val_main_v21 (F := Ideal) x a) (eq_ix3 y)).trans (shift_apply (y 0) (y 1) (y 2) hoff hon)

/-- The displacement at any entry. -/
theorem disp_entry (y : S2048x2048x3.Idx) : val_main_v23 (F := Ideal) x a y = atPair x a (y 0) (y 1) disp (y 2) :=
  (congrArg (val_main_v23 (F := Ideal) x a) (eq_ix3 y)).trans (disp_apply (y 0) (y 1) (y 2) hoff hon)

/-- The reference's squared distance. -/
theorem dist2_apply (y : S2048x2048.Idx) : val_main_v25 (F := Ideal) x a y = atPair x a (y 0) (y 1) dist2 := by
  have hzero : val_main_cst_0 (F := Ideal) (Shape.Idx.first Gen.h_S_) = 0 := Ideal.ofBits_zero_f32
  have hsq (k : Fin 3) : val_main_v24 (F := Ideal) x a (idx_main_v25 y k)
      = atPair x a (y 0) (y 1) disp k * atPair x a (y 0) (y 1) disp k := by
    rw [val_main_v24_apply, disp_entry hoff hon]
    rfl
  rw [val_main_v25_apply, hzero, zero_add, Fin.sum_univ_three, hsq, hsq, hsq]
  rfl

/-- The reference's mark of neighbours. -/
theorem near_apply (y : S2048x2048.Idx) :
    val_main_v34 (F := Ideal) x a y = atPair x a (y 0) (y 1) near (differ (y 0) (y 1)) := by
  rw [val_main_v34_apply, val_main_v32_apply, dist2_apply hoff hon, differ_apply, val_main_v31_apply]
  rfl

/-! ## The four results -/

/-- The adjacency matrix. -/
theorem adj_result : val_main_v35 (F := Ideal) x a = adjacencyOf x a := by
  funext y
  rw [val_main_v35_apply, near_apply hoff hon]
  rfl

/-- The integer shifts: the product with the adjacency entry keeps them or makes them zero. -/
theorem sft_result : val_main_v39 (F := Ideal) x a = shiftsOf x a := by
  funext y
  rw [val_main_v39_apply, val_main_v36_apply, val_main_v38_apply, val_main_v37_apply, adj_result hoff hon,
    shift_entry hoff hon]
  exact muli_extend _ _

/-- The displacements. -/
theorem vec_result : val_main_v41 (F := Ideal) x a = dispsOf x a := by
  funext y
  have hzero : val_main_call5_v2 (F := Ideal) y = 0 :=
    (val_main_call5_v2_apply y).trans Ideal.ofBits_zero_f32
  rw [val_main_v41_apply, hzero, val_main_call5_v1_apply, val_main_v40_apply, near_apply hoff hon,
    disp_entry hoff hon]
  rfl

/-- The squared distances. -/
theorem sod_result : val_main_v42 (F := Ideal) x a = dist2sOf x a := by
  funext y
  have hzero : val_main_call6_v1 (F := Ideal) y = 0 :=
    (val_main_call6_v1_apply y).trans Ideal.ofBits_zero_f32
  rw [val_main_v42_apply, near_apply hoff hon, dist2_apply hoff hon, hzero]
  rfl

end Cert.ReferenceIdeal.Entry

end
-- ==== Proof.lean ====
/-
  The certificate: the kernel and the reference each run to an end with their arguments and counters as they were, and on
  a diagonal cell with finite edges, none of them zero, the kernel's four results are the reference's, over the extended
  reals. The mathematics of one pair of particles is in Proof/Pair.lean; that each block of the kernel holds it in
  Proof/KernelBlock.lean and the four whole arrays in Proof/KernelArray.lean; what the precondition says in
  Proof/Pre.lean; that the reference computes the same in Proof/RefInverse.lean (the inverse of the cell) and
  Proof/RefPair.lean (the four results).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.Pre_diagonal_cell
public import proofs.«01_k».proof.Proof.KernelArray
public import proofs.«01_k».proof.Proof.Pre
public import proofs.«01_k».proof.Proof.RefPair
public import Idealize.ShloMosaic.Adequacy
public import Idealize.ShloMosaic.Init

@[expose] public section

noncomputable section

namespace Cert.Proof

open Idealize.ShloMosaic Idealize.ShloMosaic.TcCoe Idealize.SL.Sem

/-- The reference ends with its arguments as they were, and it declares no counter. -/
theorem reference_frame : Cert.quiescent_ReferenceIdeal (hReferenceIdeal := Cert.ReferenceIdeal.Gen.facts) := by
  intro m g _
  exact (θ_run _ _ _).mono (fun r h => ⟨fun c => (h c).2.2.2.2, sem_eq_zero_of_no_sems (by decide) r.2⟩)
    (Cert.ReferenceIdeal.Value.run m g)

/-- The reference's four results on a diagonal cell. -/
theorem reference_run (m : (ℓ : Loc Cert.ReferenceIdeal.nD Cert.ReferenceIdeal.τ Cert.ReferenceIdeal.sig) → Buf (Elt Ideal) ℓ)
    (g : Dev Cert.ReferenceIdeal.nD → PrngReg) (x : Dev Cert.ReferenceIdeal.nD → Cert.Pair.Positions)
    (a : Dev Cert.ReferenceIdeal.nD → Cert.Pair.Cell)
    (hx : ∀ c : Dev Cert.ReferenceIdeal.nD, m ((c.tc : Thread Cert.ReferenceIdeal.nD Cert.ReferenceIdeal.τ).loc Cert.ReferenceIdeal.main_arg0) = x c)
    (ha : ∀ c : Dev Cert.ReferenceIdeal.nD, m ((c.tc : Thread Cert.ReferenceIdeal.nD Cert.ReferenceIdeal.τ).loc Cert.ReferenceIdeal.main_arg1) = a c)
    (hpre : ∀ c : Dev Cert.ReferenceIdeal.nD, Cert.Pre_diagonal_cell.fn (F := Ideal) (x c) (a c) = fun _ => 1#1) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v35) = Cert.Pair.adjacencyOf (x c) (a c)
        ∧ r.2.mem ((c.tc : Thread Cert.ReferenceIdeal.nD Cert.ReferenceIdeal.τ).loc Cert.ReferenceIdeal.main_v39) = Cert.Pair.shiftsOf (x c) (a c)
        ∧ r.2.mem ((c.tc : Thread Cert.ReferenceIdeal.nD Cert.ReferenceIdeal.τ).loc Cert.ReferenceIdeal.main_v41) = Cert.Pair.dispsOf (x c) (a c)
        ∧ r.2.mem ((c.tc : Thread Cert.ReferenceIdeal.nD Cert.ReferenceIdeal.τ).loc Cert.ReferenceIdeal.main_v42) = Cert.Pair.dist2sOf (x c) (a c)
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) := by
  refine (θ_run _ _ _).mono (fun r h c => ?_) (Cert.ReferenceIdeal.Value.run m g)
  obtain ⟨h0, h1, h2, h3, h4⟩ := h c
  have hoff {i j : Fin 3} (hij : i ≠ j) := Cert.Pre_diagonal_cell.off_diagonal (hpre c) hij
  have hon := Cert.Pre_diagonal_cell.on_diagonal (hpre c)
  rw [Cert.ReferenceIdeal.Read.val_main_v35_eq, hx, ha] at h0
  rw [Cert.ReferenceIdeal.Read.val_main_v39_eq, hx, ha] at h1
  rw [Cert.ReferenceIdeal.Read.val_main_v41_eq, hx, ha] at h2
  rw [Cert.ReferenceIdeal.Read.val_main_v42_eq, hx, ha] at h3
  exact ⟨h0.trans (Cert.ReferenceIdeal.Entry.adj_result hoff hon), h1.trans (Cert.ReferenceIdeal.Entry.sft_result hoff hon),
    h2.trans (Cert.ReferenceIdeal.Entry.vec_result hoff hon), h3.trans (Cert.ReferenceIdeal.Entry.sod_result hoff hon), h4⟩

/-- On a diagonal cell the kernel's four results are the reference's. -/
theorem equation : Cert.algebraic_KernelIdeal_ReferenceIdeal_pre_diagonal_cell (hKernelIdeal := Cert.KernelIdeal.Gen.facts)
    (hReferenceIdeal := Cert.ReferenceIdeal.Gen.facts) (hPre_diagonal_cell := Cert.Pre_diagonal_cell.Gen.facts) :=
  fun m g m' g' hpre hagree => ⟨_, _, _, _, Cert.KernelIdeal.Arrays.run m g,
    reference_run m' g' _ _ (fun c => (hagree c).1) (fun c => (hagree c).2) hpre⟩

/-- The claim. -/
theorem claim : Cert.Claim :=
  ⟨Cert.Kernel.Gen.facts, Cert.KernelIdeal.Gen.facts, Cert.ReferenceIdeal.Gen.facts, Cert.Pre_diagonal_cell.Gen.facts,
    fun m g _ => Cert.Kernel.Gen.frame m g, fun m g _ => Cert.KernelIdeal.Gen.frame m g,
    fun m g _ => Cert.KernelIdeal.Gen.frame m g, reference_frame, fun m g _ => reference_frame m g trivial, trivial,
    equation⟩

end Cert.Proof

end
